-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_table_finite_species_listed [hPre_table_finite_species_listed : Cert.Pre_table_finite_species_listed.Facts] (m : (ℓ : Loc Cert.KernelIdeal.nD Cert.KernelIdeal.τ Cert.KernelIdeal.sig) → Buf (Elt Ideal) ℓ) : Prop :=
  ∀ c : Dev Cert.KernelIdeal.nD,
    (Cert.Pre_table_finite_species_listed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_table_finite_species_listed [hPre_table_finite_species_listed : Cert.Pre_table_finite_species_listed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_finite_species_listed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_table_finite_species_listed [hKernelIdeal : Cert.KernelIdeal.Facts] [hPre_table_finite_species_listed : Cert.Pre_table_finite_species_listed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_finite_species_listed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_table_finite_species_listed [hReferenceIdeal : Cert.ReferenceIdeal.Facts] [hPre_table_finite_species_listed : Cert.Pre_table_finite_species_listed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_finite_species_listed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_table_finite_species_listed [hKernelIdeal : Cert.KernelIdeal.Facts] [hReferenceIdeal : Cert.ReferenceIdeal.Facts] [hPre_table_finite_species_listed : Cert.Pre_table_finite_species_listed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_finite_species_listed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_table_finite_species_listed : Cert.Pre_table_finite_species_listed.Facts),
    quiescent_Kernel (hKernel := hKernel)
    ∧ quiescent_KernelIdeal (hKernelIdeal := hKernelIdeal)
    ∧ quiescent_KernelIdeal_pre_table_finite_species_listed (hKernelIdeal := hKernelIdeal) (hPre_table_finite_species_listed := hPre_table_finite_species_listed)
    ∧ quiescent_ReferenceIdeal (hReferenceIdeal := hReferenceIdeal)
    ∧ quiescent_ReferenceIdeal_pre_table_finite_species_listed (hReferenceIdeal := hReferenceIdeal) (hPre_table_finite_species_listed := hPre_table_finite_species_listed)
    ∧ preserves_Kernel_KernelIdeal
    ∧ algebraic_KernelIdeal_ReferenceIdeal_pre_table_finite_species_listed (hKernelIdeal := hKernelIdeal) (hReferenceIdeal := hReferenceIdeal) (hPre_table_finite_species_listed := hPre_table_finite_species_listed)
-- ==== Pre_table_finite_species_listed.lean ====
abbrev S16384x3 : Shape := ⟨2, ![16384, 3]⟩
abbrev S16384 : Shape := ⟨1, ![16384]⟩
abbrev S95x64 : Shape := ⟨2, ![95, 64]⟩
abbrev S67x256 : Shape := ⟨2, ![67, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩
abbrev S64x256 : Shape := ⟨2, ![64, 256]⟩

class Facts : Prop where
  bcast_S_S16384 : S_.BroadcastsInDim S16384 (![] : Fin 0 → Fin S16384.rank)
  reducesTo_S16384_S_d0 : S16384.ReducesTo [0] S_
  h_S_ : 0 < S_.numel
  bcast_S_S95x64 : S_.BroadcastsInDim S95x64 (![] : Fin 0 → Fin S95x64.rank)
  reducesTo_S95x64_S_d0_1 : S95x64.ReducesTo [0, 1] S_
  slices_S67x256_S64x256_0_0 : S67x256.Slices ![0, 0] S64x256
  bcast_S_S64x256 : S_.BroadcastsInDim S64x256 (![] : Fin 0 → Fin S64x256.rank)
  reducesTo_S64x256_S_d0_1 : S64x256.ReducesTo [0, 1] S_

variable [Facts]

def fn {F : FTy → Type} [FloatOps F] (main_arg0 : FVec F S16384x3 .f32) (main_arg1 : IVec S16384 32) (main_arg2 : IVec S16384 32) (main_arg3 : FVec F S95x64 .f32) (main_arg4 : FVec F S67x256 .f32) (main_arg5 : FVec F S256 .f32) (main_arg6 : FVec F S256x256 .f32) (main_arg7 : FVec F S256 .f32) (main_arg8 : FVec F S256x1 .f32) (main_arg9 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 95#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_v6 : FVec F S95x64 .f32 := Host.absf main_arg3
  let main_cst : FVec F S_ .f32 := constant S_ .f32 0x7F800000#32
  let main_v7 : FVec F S95x64 .f32 := broadcastInDim S95x64 ![] bcast_S_S95x64 main_cst
  let main_v8 : IVec S95x64 1 := cmpf .olt main_v6 main_v7
  let main_c_2 : IVec S_ 1 := constantI S_ 1 1#1
  let main_v9 : IVec S_ 1 := (fun x v => Host.reduce IntOp.andi x v reducesTo_S95x64_S_d0_1 h_S_) main_v8 main_c_2
  let main_v10 : FVec F S64x256 .f32 := (extractStridedSlice S64x256 ![0, 0] · slices_S67x256_S64x256_0_0) main_arg4
  let main_v11 : FVec F S64x256 .f32 := Host.absf main_v10
  let main_cst_3 : FVec F S_ .f32 := constant S_ .f32 0x7F800000#32
  let main_v12 : FVec F S64x256 .f32 := broadcastInDim S64x256 ![] bcast_S_S64x256 main_cst_3
  let main_v13 : IVec S64x256 1 := cmpf .olt main_v11 main_v12
  let main_c_4 : IVec S_ 1 := constantI S_ 1 1#1
  let main_v14 : IVec S_ 1 := (fun x v => Host.reduce IntOp.andi x v reducesTo_S64x256_S_d0_1 h_S_) main_v13 main_c_4
  let main_v15 : IVec S_ 1 := andi main_v9 main_v14
  let main_v16 : IVec S_ 1 := andi main_v5 main_v15
  main_v16
-- ==== Kernel.lean ====
abbrev S16384x3 : Shape := ⟨2, ![16384, 3]⟩
abbrev S16384 : Shape := ⟨1, ![16384]⟩
abbrev S95x64 : Shape := ⟨2, ![95, 64]⟩
abbrev S67x256 : Shape := ⟨2, ![67, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S2x1x8192 : Shape := ⟨3, ![2, 1, 8192]⟩
abbrev S1x256x1x1 : Shape := ⟨4, ![1, 256, 1, 1]⟩
abbrev S1x256x16x1 : Shape := ⟨4, ![1, 256, 16, 1]⟩
abbrev S256x16 : Shape := ⟨2, ![256, 16]⟩
abbrev S1x256 : Shape := ⟨2, ![1, 256]⟩
abbrev S1x1 : Shape := ⟨2, ![1, 1]⟩
abbrev S1x16 : Shape := ⟨2, ![1, 16]⟩
abbrev S16 : Shape := ⟨1, ![16]⟩
abbrev S8192x3 : Shape := ⟨2, ![8192, 3]⟩
abbrev S1x1x8192 : Shape := ⟨3, ![1, 1, 8192]⟩
abbrev S64x256 : Shape := ⟨2, ![64, 256]⟩
abbrev S95x256 : Shape := ⟨2, ![95, 256]⟩
abbrev S3x256 : Shape := ⟨2, ![3, 256]⟩
abbrev S29x256 : Shape := ⟨2, ![29, 256]⟩
abbrev S33x256 : Shape := ⟨2, ![33, 256]⟩
abbrev S1x1x1024 : Shape := ⟨3, ![1, 1, 1024]⟩
abbrev S1024 : Shape := ⟨1, ![1024]⟩
abbrev S1024x95 : Shape := ⟨2, ![1024, 95]⟩
abbrev S1024x1 : Shape := ⟨2, ![1024, 1]⟩
abbrev S1024x3 : Shape := ⟨2, ![1024, 3]⟩
abbrev S1024x29 : Shape := ⟨2, ![1024, 29]⟩
abbrev S1024x128 : Shape := ⟨2, ![1024, 128]⟩
abbrev S1024x256 : Shape := ⟨2, ![1024, 256]⟩
abbrev S1024x16 : Shape := ⟨2, ![1024, 16]⟩

abbrev nBuf : Space → Nat
  | .hbm => 20
  | .vmem => 15
  | .smem => 0
  | _ => 0

abbrev bufTy : (tb : Table) → Fin (tcTables nBuf tb) → BufTy
  | .hbm, ⟨0, _⟩ => ⟨S16384x3, .f32⟩
  | .hbm, ⟨1, _⟩ => ⟨S16384, .i32⟩
  | .hbm, ⟨2, _⟩ => ⟨S16384, .i32⟩
  | .hbm, ⟨3, _⟩ => ⟨S95x64, .f32⟩
  | .hbm, ⟨4, _⟩ => ⟨S67x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S2x1x8192, .i32⟩
  | .hbm, ⟨11, _⟩ => ⟨S2x1x8192, .i32⟩
  | .hbm, ⟨12, _⟩ => ⟨S1x256x1x1, .f32⟩
  | .hbm, ⟨13, _⟩ => ⟨S1x256x16x1, .f32⟩
  | .hbm, ⟨14, _⟩ => ⟨S256x16, .f32⟩
  | .hbm, ⟨15, _⟩ => ⟨S1x256, .f32⟩
  | .hbm, ⟨16, _⟩ => ⟨S1x256, .f32⟩
  | .hbm, ⟨17, _⟩ => ⟨S1x1, .f32⟩
  | .hbm, ⟨18, _⟩ => ⟨S1x16, .f32⟩
  | .hbm, ⟨19, _⟩ => ⟨S16, .f32⟩
  | .local _ .vmem, ⟨0, _⟩ => ⟨S8192x3, .f32⟩
  | .local _ .vmem, ⟨1, _⟩ => ⟨S8192x3, .f32⟩
  | .local _ .vmem, ⟨2, _⟩ => ⟨S1x1x8192, .i32⟩
  | .local _ .vmem, ⟨3, _⟩ => ⟨S1x1x8192, .i32⟩
  | .local _ .vmem, ⟨4, _⟩ => ⟨S1x1x8192, .i32⟩
  | .local _ .vmem, ⟨5, _⟩ => ⟨S1x1x8192, .i32⟩
  | .local _ .vmem, ⟨6, _⟩ => ⟨S95x64, .f32⟩
  | .local _ .vmem, ⟨7, _⟩ => ⟨S67x256, .f32⟩
  | .local _ .vmem, ⟨8, _⟩ => ⟨S1x256, .f32⟩
  | .local _ .vmem, ⟨9, _⟩ => ⟨S256x256, .f32⟩
  | .local _ .vmem, ⟨10, _⟩ => ⟨S1x256, .f32⟩
  | .local _ .vmem, ⟨11, _⟩ => ⟨S256x16, .f32⟩
  | .local _ .vmem, ⟨12, _⟩ => ⟨S1x1, .f32⟩
  | .local _ .vmem, ⟨13, _⟩ => ⟨S1x16, .f32⟩
  | .local _ .vmem, ⟨14, _⟩ => ⟨S256x256, .bf16⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c0_i32_114 : BitVec 32 := 0#32
  let v297 : BitVec 1 := Scalar.cmpi .eq arg0 c0_i32_114
  let v298 : BitVec 32 := Scalar.extui v297
  let c0_i32_115 : BitVec 32 := 0#32
  let v299 : BitVec 1 := Scalar.cmpi .ne v298 c0_i32_115
  v299

def k0_cond3 (i : grid0.Coords) : BitVec 1 :=
  let arg0 : BitVec 32 := BitVec.ofNat 32 (i 0).val
  let c0_i32_116 : BitVec 32 := 0#32
  let v300 : BitVec 1 := Scalar.cmpi .ne arg0 c0_i32_116
  let v301 : BitVec 32 := Scalar.extui v300
  let c0_i32_117 : BitVec 32 := 0#32
  let v302 : BitVec 1 := Scalar.cmpi .ne v301 c0_i32_117
  v302

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S95x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S67x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S16384x3 : Shape := ⟨2, ![16384, 3]⟩
abbrev S16384 : Shape := ⟨1, ![16384]⟩
abbrev S95x64 : Shape := ⟨2, ![95, 64]⟩
abbrev S67x256 : Shape := ⟨2, ![67, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x64 : Shape := ⟨2, ![16384, 64]⟩
abbrev S16384x67 : Shape := ⟨2, ![16384, 67]⟩
abbrev S16384x256 : Shape := ⟨2, ![16384, 256]⟩
abbrev S1x256 : Shape := ⟨2, ![1, 256]⟩
abbrev S16 : Shape := ⟨1, ![16]⟩

abbrev nBuf : Space → Nat
  | .hbm => 53
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384, .i32⟩
  | .hbm, ⟨2, _⟩ => ⟨S16384, .i32⟩
  | .hbm, ⟨3, _⟩ => ⟨S95x64, .f32⟩
  | .hbm, ⟨4, _⟩ => ⟨S67x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S1, .i32⟩
  | .hbm, ⟨19, _⟩ => ⟨S_, .i32⟩
  | .hbm, ⟨20, _⟩ => ⟨S16384x1, .i32⟩
  | .hbm, ⟨21, _⟩ => ⟨S16384x1, .i1⟩
  | .hbm, ⟨22, _⟩ => ⟨S1x1, .i32⟩
  | .hbm, ⟨23, _⟩ => ⟨S16384x1, .i32⟩
  | .hbm, ⟨24, _⟩ => ⟨S16384x1, .i1⟩
  | .hbm, ⟨25, _⟩ => ⟨S16384x1, .i1⟩
  | .hbm, ⟨26, _⟩ => ⟨S_, .i1⟩
  | .hbm, ⟨27, _⟩ => ⟨S16384, .i1⟩
  | .hbm, ⟨28, _⟩ => ⟨S16384x64, .f32⟩
  | .hbm, ⟨29, _⟩ => ⟨S16384x64, .i1⟩
  | .hbm, ⟨30, _⟩ => ⟨S_, .f32⟩
  | .hbm, ⟨31, _⟩ => ⟨S16384x64, .f32⟩
  | .hbm, ⟨32, _⟩ => ⟨S16384x64, .f32⟩
  | .hbm, ⟨33, _⟩ => ⟨S16384x67, .f32⟩
  | .hbm, ⟨34, _⟩ => ⟨S16384x256, .f32⟩
  | .hbm, ⟨35, _⟩ => ⟨S1x256, .f32⟩
  | .hbm, ⟨36, _⟩ => ⟨S16384x256, .f32⟩
  | .hbm, ⟨37, _⟩ => ⟨S16384x256, .f32⟩
  | .hbm, ⟨38, _⟩ => ⟨S16384x256, .f32⟩
  | .hbm, ⟨39, _⟩ => ⟨S16384x256, .f32⟩
  | .hbm, ⟨40, _⟩ => ⟨S1x256, .f32⟩
  | .hbm, ⟨41, _⟩ => ⟨S16384x256, .f32⟩
  | .hbm, ⟨42, _⟩ => ⟨S16384x256, .f32⟩
  | .hbm, ⟨43, _⟩ => ⟨S16384x256, .f32⟩
  | .hbm, ⟨44, _⟩ => ⟨S16384x1, .f32⟩
  | .hbm, ⟨45, _⟩ => ⟨S1x1, .f32⟩
  | .hbm, ⟨46, _⟩ => ⟨S16384x1, .f32⟩
  | .hbm, ⟨47, _⟩ => ⟨S16384x1, .f32⟩
  | .hbm, ⟨48, _⟩ => ⟨S16384, .f32⟩
  | .hbm, ⟨49, _⟩ => ⟨S_, .f32⟩
  | .hbm, ⟨50, _⟩ => ⟨S16, .f32⟩
  | .hbm, ⟨51, _⟩ => ⟨S16384x1, .i32⟩
  | .hbm, ⟨52, _⟩ => ⟨S16, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩

abbrev nD : Nat := 1
abbrev τ : Topo := Topo.v7x

variable {F : FTy → Type} [FloatOps F]
-- ==== Proof.Network.lean ====
/-
  What the two programs compute, in plain mathematics over the extended reals: the energy of one atom, and the total energy of
  one structure. Nothing here mentions either program.
-/
module

public import Idealize.ShloMosaic.Lib.Pointwise

@[expose] public section

noncomputable section

namespace Cert.Network

open Idealize.ShloMosaic

/-- What the last two layers make of an atom's row of first-layer values: `tanh`, the second layer, `tanh`, the third layer. -/
def readout (W2 : Fin 256 → Fin 256 → EReal) (b2 W3 : Fin 256 → EReal) (b3 : EReal) (row : Fin 256 → EReal) : EReal :=
  ∑ l, Ideal.tanh (∑ k, Ideal.tanh (row k) * W2 k l + b2 l) * W3 l + b3

/-- The first layer's value at hidden unit `k`: the species' embedding `f` on the first 64 rows of the weights, the position `x`
    on the last three, and the bias. -/
def first (f : Fin 64 → EReal) (x : Fin 3 → EReal) (top : Fin 64 → Fin 256 → EReal) (low : Fin 3 → Fin 256 → EReal)
    (b1 : Fin 256 → EReal) (k : Fin 256) : EReal :=
  ∑ i, f i * top i k + ∑ i, x i * low i k + b1 k

section
variable (coord : (⟨2, ![16384, 3]⟩ : Shape).Idx → EReal) (ind : (⟨1, ![16384]⟩ : Shape).Idx → BitVec 32)
  (emb : (⟨2, ![95, 64]⟩ : Shape).Idx → EReal)
  (W1 : (⟨2, ![67, 256]⟩ : Shape).Idx → EReal) (b1 : (⟨1, ![256]⟩ : Shape).Idx → EReal)
  (W2 : (⟨2, ![256, 256]⟩ : Shape).Idx → EReal) (b2 : (⟨1, ![256]⟩ : Shape).Idx → EReal)
  (W3 : (⟨2, ![256, 1]⟩ : Shape).Idx → EReal) (b3 : (⟨1, ![1]⟩ : Shape).Idx → EReal)
  (e : Fin 16384 → Fin 95)

/-- The energy of atom `n`, whose species is row `e n` of the table. -/
def energy (n : Fin 16384) : EReal :=
  readout (fun k l => W2 (ix2 k l)) (fun l => b2 (ix1 l)) (fun l => W3 (ix2 l 0)) (b3 (ix1 0))
    (first (fun i => emb (ix2 (e n) i)) (fun i => coord (ix2 n i)) (fun i k => W1 (ix2 ⟨i.val, by omega⟩ k))
      (fun i k => W1 (ix2 ⟨64 + i.val, by omega⟩ k)) (fun k => b1 (ix1 k)))

/-- The total energy of structure `s`: the energies of the atoms that name it, summed. -/
def total (s : Fin 16) : EReal :=
  ∑ n, if ind (ix1 n) = BitVec.ofNat 32 s.val then energy coord emb W1 b1 W2 b2 W3 b3 e n else 0

end

end Cert.Network

end
-- ==== Proof.Reference.lean ====
/-
  The reference's run, read: at structure `s` it ends at the total energy of that structure (Network.lean).

  Two of its operations need more than reading an element: the lookup in the species table (a wrapped index, a row gather and a
  range mask, which at listed species is the row of the table), and the segment sum (a scatter-add onto zeros).
-/
module

public import proofs.«01_k».proof.Proof.Gen.ReferenceIdeal.Run
public import proofs.«01_k».proof.Proof.Network
public import Idealize.ShloMosaic.Lib.Pointwise
public import Idealize.ShloMosaic.Lib.Routing.Ops
public import Idealize.ShloMosaic.Lib.Routing.OpsPair

@[expose] public section

set_option maxRecDepth 16384

noncomputable section

namespace Cert.Reference

open Idealize.ShloMosaic Idealize.ShloMosaic.TcCoe Idealize.SL.Sem
open Cert.ReferenceIdeal Cert.ReferenceIdeal.Gen

/-- A listed species is not negative, so the lookup's wrap of negative indices leaves it. -/
theorem unwrapped (b : Fin 95) : Scalar.select (IntOp.cmpi .slt (BitVec.ofNat 32 b.val) 0#32)
    (IntOp.addi (BitVec.ofNat 32 b.val) 95#32) (BitVec.ofNat 32 b.val) = BitVec.ofNat 32 b.val := by
  revert b; decide

/-- A listed species passes the lookup's range mask. -/
theorem listed_in_mask (b : Fin 95) : IntOp.andi (IntOp.cmpi .sge (BitVec.ofNat 32 b.val) 0#32)
    (IntOp.cmpi .sle (BitVec.ofNat 32 b.val) 94#32) = 1#1 := by
  revert b; decide

/-- The lookup's gather at atom `n`: row `e n` of the table. -/
theorem looked_up (emb : FVec Ideal S95x64 .f32) (elems : IVec S16384 32) (e : Fin 16384 → Fin 95)
    (he : ∀ n, elems (ix1 n) = BitVec.ofNat 32 (e n).val) (n : Fin 16384) (i : Fin 64) :
    Host.gather gather_S95x64_S16384x1_S16384x64_1_0_n_n_0_1_164 emb
      (broadcastInDim S16384x1 ![0] bcast_S16384_S16384x1_0
        (select (cmpi .slt elems (broadcastInDim S16384 ![] bcast_S_S16384 (constantI S_ 32 0#32)))
          (addi elems (broadcastInDim S16384 ![] bcast_S_S16384 (constantI S_ 32 95#32))) elems)) (ix2 n i) = emb (ix2 (e n) i) := by
  refine Routing.gather_row gather_S95x64_S16384x1_S16384x64_1_0_n_n_0_1_164 rfl rfl rfl rfl rfl emb _ n i (e n) ?_ (by decide)
  pointwise
  rw [he, unwrapped]

/-- Where the scatter puts update `n`: at structure `s` exactly when the atom's word is `s`. -/
theorem lands (idx : IVec S16384x1 32) (n : Fin 16384) (s : Fin 16) :
    scatter_S16_S16384x1_S16384_n_0_0_1.resultIdx? (ix1 n) idx = some (ix1 s) ↔ idx (ix2 n 0) = BitVec.ofNat 32 s.val := by
  have at_word : scatter_S16_S16384x1_S16384_n_0_0_1.siIdx (ix1 n) ⟨0, by decide⟩ = ix2 n 0 := by
    funext b
    match b with
    | ⟨0, _⟩ => rfl
    | ⟨1, _⟩ => rfl
  have start : scatter_S16_S16384x1_S16384_n_0_0_1.start (ix1 n) idx 0 = (idx (ix2 n 0)).toInt := by
    rw [← at_word]; rfl
  have window : scatter_S16_S16384x1_S16384_n_0_0_1.window (ix1 n) 0 = 0 := rfl
  refine (Routing.resultIdx?_ix1 (N := 16) scatter_S16_S16384x1_S16384_n_0_0_1 (ix1 n) idx s).trans ?_
  rw [start, window]
  have hs : (BitVec.ofNat 32 s.val).toInt = s.val := by revert s; decide
  rw [← BitVec.toInt_inj, hs]
  simp

/-- The segment sum: at structure `s`, the updates of the atoms whose word is `s`, summed. -/
theorem segment_sum (ind : IVec S16384 32) (upd : FVec Ideal S16384 .f32) (s : Fin 16) :
    Host.scatterAdd scatter_S16_S16384x1_S16384_n_0_0_1 (broadcastInDim S16 ![] bcast_S_S16 (constant S_ .f32 0x00000000#32))
      (broadcastInDim S16384x1 ![0] bcast_S16384_S16384x1_0 ind) upd (ix1 s)
      = ∑ n, if ind (ix1 n) = BitVec.ofNat 32 s.val then upd (ix1 n) else 0 := by
  show Ideal.hostScatterAdd _ _ _ _ _ = _
  unfold Ideal.hostScatterAdd
  rw [Finset.sum_filter, show broadcastInDim S16 ![] bcast_S_S16 (constant (F := Ideal) S_ .f32 0x00000000#32) (ix1 s) = 0 from by pointwise, zero_add]
  rw [sum_idx1]
  refine Finset.sum_congr rfl fun n _ => if_congr ((lands _ n s).trans ?_) rfl rfl
  pointwise

variable (m : (ℓ : Loc nD τ sig) → Buf (Elt Ideal) ℓ) (ρ : Dev nD → PrngReg)

/-- The reference's result is the total energy of each structure, and its arguments are unchanged, whenever the species words
    name rows `e n` of the table. -/
theorem run (e : Dev nD → Fin 16384 → Fin 95)
    (he : ∀ (c : Dev nD) n, m ((c.tc : Thread nD τ).loc main_arg1) (ix1 n) = BitVec.ofNat 32 (e c n).val) :
    θ_run defs (onTc (τ := τ) (main (F := Ideal))) ⟨m, fun _ => 0, ρ⟩ fun r => ∀ c : Dev nD,
      r.2.mem ((c.tc : Thread nD τ).loc main_v19) = (fun s : S16.Idx => Network.total
        (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9))
        (e c) (s 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun _ h c => ⟨(h c).1.trans (funext fun s => ?_), (h c).2⟩) (ReferenceIdeal.Value.run m ρ)
  idx_vars s
  rw [segment_sum]
  unfold Network.total
  refine Finset.sum_congr rfl fun n _ => if_congr Iff.rfl ?_ rfl
  unfold Network.energy Network.readout Network.first
  specialize he c
  generalize m ((c.tc : Thread nD τ).loc main_arg1) = elems at he ⊢
  pointwise
  simp only [looked_up _ elems (e c) he, he n, unwrapped, listed_in_mask]
  rfl

end Cert.Reference

end
-- ==== Proof.Precondition.lean ====
/-
  The precondition, read: every species word names a row of the table, and neither the table nor the first 64 rows of the first
  layer's weights holds an infinity.
-/
module

public import proofs.«01_k».proof.Proof.Gen.Pre_table_finite_species_listed
public import Idealize.ShloMosaic.Lib.Pointwise
public import Idealize.ShloMosaic.Lib.WordArith

@[expose] public section

set_option maxRecDepth 16384

noncomputable section

namespace Cert.Precondition

open Idealize.ShloMosaic Idealize.SL.Sem
open Cert.Pre_table_finite_species_listed

/-- One bit "and" another is set exactly when both are. -/
theorem both_set : ∀ a b : BitVec 1, IntOp.andi a b = 1#1 ↔ a = 1#1 ∧ b = 1#1 := by decide

/-- The "and" of a finite family of bits is set exactly when each is. -/
theorem all_set {ι : Type} [DecidableEq ι] (S : Finset ι) (f : ι → BitVec 1) :
    Finset.fold IntOp.andi 1#1 f S = 1#1 ↔ ∀ i ∈ S, f i = 1#1 := by
  induction S using Finset.induction_on with
  | empty => simp
  | insert a T ha ih => rw [Finset.fold_insert ha, both_set, ih]; simp

/-- A value whose absolute value is below infinity is no infinity. -/
theorem finite_of_abs_lt (x : EReal) (h : max x (-x) < Ideal.ofBits .f32 0x7F800000#32) : x ≠ ⊤ ∧ x ≠ ⊥ := by
  have top : Ideal.ofBits .f32 0x7F800000#32 = ⊤ := by simp [Ideal.ofBits, Ideal.ieee]
  rw [top] at h
  constructor <;> rintro rfl <;> simp at h

/-- A truth value stored as a set bit is true. -/
theorem of_bit : ∀ b : Bool, BitVec.ofBool b = 1#1 → b = true := by decide

/-- A word that is not negative and below 95 is the word of a number below 95. -/
theorem listed_of_bounds (w : BitVec 32) (h0 : IntOp.cmpi .sge w 0#32 = 1#1) (h1 : IntOp.cmpi .slt w 95#32 = 1#1) :
    ∃ b : Fin 95, w = BitVec.ofNat 32 b.val := by
  have h : w.toNat < 95 := by
    have h0 : BitVec.sle 0#32 w = true := of_bit _ h0
    have h1 : BitVec.slt w (BitVec.ofNat 32 95) = true := of_bit _ h1
    exact WordArith.toNat_lt_of_zero_sle_of_slt_ofNat w 95 (by decide) h0 h1
  exact ⟨⟨w.toNat, h⟩, by simp⟩

/-- The precondition's three facts. -/
theorem facts {x0 : FVec Ideal S16384x3 .f32} {x1 x2 : IVec S16384 32} {x3 : FVec Ideal S95x64 .f32} {x4 : FVec Ideal S67x256 .f32}
    {x5 : FVec Ideal S256 .f32} {x6 : FVec Ideal S256x256 .f32} {x7 : FVec Ideal S256 .f32} {x8 : FVec Ideal S256x1 .f32}
    {x9 : FVec Ideal S1 .f32} (h : fn (F := Ideal) x0 x1 x2 x3 x4 x5 x6 x7 x8 x9 = fun _ => 1#1) :
    (∀ n, ∃ b : Fin 95, x1 (ix1 n) = BitVec.ofNat 32 b.val)
    ∧ (∀ i j, x3 (ix2 i j) ≠ ⊤ ∧ x3 (ix2 i j) ≠ ⊥)
    ∧ ∀ (i : Fin 64) (k : Fin 256), x4 (ix2 ⟨i.val, by omega⟩ k) ≠ ⊤ ∧ x4 (ix2 ⟨i.val, by omega⟩ k) ≠ ⊥ := by
  have h := congrFun h ix0
  unfold fn at h
  dsimp only at h
  pointwise at h
  rw [both_set, both_set, all_set, all_set, all_set] at h
  obtain ⟨hs, he, hw⟩ := h
  refine ⟨fun n => ?_, fun i j => ?_, fun i k => ?_⟩
  · exact listed_of_bounds _ ((both_set _ _).1 (hs n (Finset.mem_univ _))).1 ((both_set _ _).1 (hs n (Finset.mem_univ _))).2
  · exact finite_of_abs_lt _ (of_decide_eq_true (of_bit _ (he (i, j) (Finset.mem_univ _))))
  · exact finite_of_abs_lt _ (of_decide_eq_true (of_bit _ (hw (i, k) (Finset.mem_univ _))))

end Cert.Precondition

end
-- ==== Proof.Slice.lean ====
/-
  What the kernel makes of 1024 atoms: the totals, over those atoms, of the energies of each structure (Network.lean).

  The kernel reads the species table through a product: a row of 256 lanes for each atom (a one-hot of its species, its position,
  a one, zeros; all twice) times a matrix holding the table already multiplied by the first layer's weights, the position's rows
  of those weights, the bias, and then what the multiplied table lost in rounding, which over the extended reals is the
  multiplied table less itself: zero, where it is finite.
-/
module

public import proofs.«01_k».proof.Proof.Gen.KernelIdeal.Frame
public import proofs.«01_k».proof.Proof.Network
public import Idealize.ShloMosaic.Lib.Pointwise

@[expose] public section

set_option maxRecDepth 16384

noncomputable section

namespace Cert.Slice

open Idealize.ShloMosaic Idealize.ShloMosaic.TcCoe Idealize.SL.Sem
open Cert.KernelIdeal Cert.KernelIdeal.Gen

/-- A comparison for equality, widened and converted, is one where the words are equal and zero elsewhere. -/
theorem hot (a b : BitVec 32) :
    (FloatOps.sitofp (F := Ideal) .f32 (BitVec.setWidth 32 (IntOp.cmpi .eq a b)) : EReal) = if b = a then 1 else 0 := by
  show ((((IntOp.cmpi .eq a b).setWidth 32).toInt : ℝ) : EReal) = _
  by_cases h : b = a
  · subst h; simp [IntOp.cmpi]
  · rw [if_neg h]
    have : IntOp.cmpi .eq a b = 0#1 := by
      show BitVec.ofBool (a == b) = _
      rw [beq_eq_false_iff_ne.2 (Ne.symm h)]; rfl
    rw [this]; simp

/-- The 256 lanes in the order the kernel lays them. -/
theorem sum_lanes (F : Fin 256 → EReal) :
    ∑ q, F q = (∑ i : Fin 95, F ⟨i.val, by omega⟩) + (∑ i : Fin 3, F ⟨95 + i.val, by omega⟩) + F ⟨98, by omega⟩
      + (∑ i : Fin 29, F ⟨99 + i.val, by omega⟩) + (∑ i : Fin 95, F ⟨128 + i.val, by omega⟩)
      + ∑ i : Fin 33, F ⟨223 + i.val, by omega⟩ := by
  rw [Fin.sum_univ_add (a := 223) (b := 33) F, Fin.sum_univ_add (a := 128) (b := 95), Fin.sum_univ_add (a := 99) (b := 29),
    Fin.sum_univ_add (a := 98) (b := 1), Fin.sum_univ_add (a := 95) (b := 3), Fin.sum_univ_one]
  rfl

/-- The words of numbers below 95 differ where the numbers do. -/
theorem word_inj (a b : Fin 95) : BitVec.ofNat 32 a.val = BitVec.ofNat 32 b.val ↔ b = a := by
  constructor
  · intro h
    have := congrArg BitVec.toNat h
    simp only [BitVec.toNat_ofNat] at this
    exact Fin.ext (by omega)
  · rintro rfl; rfl

/-- A finite value less itself is zero. -/
theorem sub_self_of_finite {x : EReal} (h : x ≠ ⊤ ∧ x ≠ ⊥) : x - x = 0 := EReal.sub_self h.1 h.2

/-- 1024 atoms of listed species, against the matrix the kernel keeps: at structure `s`, the energies of those that name `s`, summed. -/
theorem slice_apply (emb : Vec Ideal S95x64 .f32) (top : Vec Ideal S64x256 .f32) (low : Vec Ideal S3x256 .f32)
    (b1 : Vec Ideal S1x256 .f32) (b2 : FVec Ideal S256 .f32) (W2 : Vec Ideal S256x256 .f32) (w3 : Vec Ideal S256x16 .f32)
    (b3 : Ideal .f32) (elems : Vec Ideal S1x1x1024 .i32) (x : Vec Ideal S1024x3 .f32) (ind : Vec Ideal S1x1x1024 .i32)
    (e : Fin 1024 → Fin 95) (he : ∀ r, elems (ix3 0 0 r) = BitVec.ofNat 32 (e r).val)
    (hfin : ∀ i k, ∑ f, emb (ix2 i f) * top (ix2 f k) ≠ ⊤ ∧ ∑ f, emb (ix2 i f) * top (ix2 f k) ≠ ⊥) (s : Fin 16) :
    k0_pay10 (k0_pay3 emb top low b1) b2 W2 w3 b3 elems x ind (ix2 0 s)
      = ∑ r, if ind (ix3 0 0 r) = BitVec.ofNat 32 s.val then
          Network.readout (fun k l => W2 (ix2 k l)) (fun l => b2 (ix1 l)) (fun l => w3 (ix2 l s)) b3
            (Network.first (fun i => emb (ix2 (e r) i)) (fun i => x (ix2 r i)) (fun i k => top (ix2 i k))
              (fun i k => low (ix2 i k)) (fun k => b1 (ix2 0 k)))
        else 0 := by
  unfold Network.readout Network.first
  pointwise [k0_pay10, k0_pay3]
  simp only [he, hot, word_inj]
  refine Finset.sum_congr rfl fun r _ => ?_
  rw [ite_mul, one_mul, zero_mul]
  refine if_congr Iff.rfl (congrArg (· + b3) (Finset.sum_congr rfl fun l _ => congrArg (fun z => Ideal.tanh (z + b2 (ix1 l)) * w3 (ix2 l s)) (Finset.sum_congr rfl fun k _ => congrArg (fun z => Ideal.tanh z * W2 (ix2 k l)) ?_))) rfl
  rw [sum_lanes]
  have table : ∀ i : Fin 95, (if BitVec.ofNat 32 (e r).val = BitVec.ofNat 32 i.val then (1 : EReal) else 0) = if i = e r then 1 else 0 :=
    fun i => if_congr (word_inj (e r) i) rfl rfl
  refine (congrArg₂ (· + ·) (congrArg₂ (· + ·) (congrArg₂ (· + ·) (congrArg₂ (· + ·) (congrArg₂ (· + ·)
    (x' := ∑ f, emb (ix2 (e r) f) * top (ix2 f k)) (y' := ∑ j, x (ix2 r j) * low (ix2 j k)) ?_ ?_) (y' := b1 (ix2 0 k)) ?_)
    (y' := 0) ?_) (y' := 0) ?_) (y' := 0) ?_).trans (by simp only [add_zero])
  · refine (Finset.sum_congr rfl fun i _ => ?_).trans (Fintype.sum_ite_eq' (e r) fun i => ∑ f, emb (ix2 i f) * top (ix2 f k))
    have hi := i.isLt
    dsimp only
    simp (disch := omega) only [dif_pos, table, ite_mul, one_mul, zero_mul]
  · refine Finset.sum_congr rfl fun i _ => ?_
    have hi := i.isLt
    dsimp only
    simp (disch := omega) only [dif_pos, dif_neg]
    simp only [Nat.add_sub_cancel_left]
  · dsimp only
    simp (disch := omega) only [dif_pos, dif_neg, one_mul]
    rfl
  · refine Finset.sum_eq_zero fun i _ => ?_
    have hi := i.isLt
    dsimp only
    simp (disch := omega) only [dif_pos, dif_neg, zero_mul]
  · refine Finset.sum_eq_zero fun i _ => ?_
    have hi := i.isLt
    dsimp only
    simp (disch := omega) only [dif_pos, dif_neg]
    rw [sub_self_of_finite (hfin _ _), mul_zero]
  · refine Finset.sum_eq_zero fun i _ => ?_
    have hi := i.isLt
    dsimp only
    simp (disch := omega) only [dif_pos, dif_neg, mul_zero]

end Cert.Slice

end
-- ==== Proof.Operands.lean ====
/-
  What the region's blocks hold, in terms of the program's arguments: at point `t` (of two), atoms `8192 t` to `8192 t + 8191`
  of the positions, the species words and the structure words; the whole of every weight. Several operands are arguments that the
  host reshaped, and the third layer's column arrives sixteen times side by side.
-/
module

public import proofs.«01_k».proof.Proof.Gen.KernelIdeal.Frame
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

namespace Cert.Operands

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

/-- Which block each operand has at each point: block `t` of the atoms' arrays, the one block of each weight. -/
theorem block_numbers : ∀ t : Fin cfg0.N, win0_0.index t = ![t.val, 0] ∧ win0_1.index t = ![t.val, 0, 0] ∧ win0_2.index t = ![t.val, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] := by decide +kernel

/-- There are two points. -/
theorem two_points : t.val < 2 := t.isLt.trans_eq N_0

/-- Atom `p` of point `t` has the position of atom `8192 t + p`. -/
theorem coord_block (p : Fin 8192) (j : Fin 3) :
    iblk m c 0 t (ix2 p j) = m ((c.tc : Thread nD τ).loc main_arg0) (ix2 ⟨8192 * t.val + p.val, by have := two_points t; omega⟩ j) := by
  have ⟨i0, i1, i2, i3, i4, i5, i6, i7, i8, i9⟩ := block_numbers t
  blk_ext [iblk, V, i0]

/-- Atom `p` of point `t` has the species word of atom `8192 t + p`. -/
theorem species_block (p : Fin 8192) :
    iblk m c 1 t (ix3 0 0 p) = m ((c.tc : Thread nD τ).loc main_arg1) (ix1 ⟨8192 * t.val + p.val, by have := two_points t; omega⟩) := by
  have ⟨i0, i1, i2, i3, i4, i5, i6, i7, i8, i9⟩ := block_numbers t
  blk_simp [iblk]
  unfold V V0
  simp only [List.flatten_cons, List.flatten_nil, List.append_nil]
  entry_read
  try simp only [StableHlo.TRef.toBuf, StableHlo.TRef.ofBuf, cast_eq]
  pointwise
  blk_ext [i1]

/-- Atom `p` of point `t` has the structure word of atom `8192 t + p`. -/
theorem structure_block (p : Fin 8192) :
    iblk m c 2 t (ix3 0 0 p) = m ((c.tc : Thread nD τ).loc main_arg2) (ix1 ⟨8192 * t.val + p.val, by have := two_points t; omega⟩) := by
  have ⟨i0, i1, i2, i3, i4, i5, i6, i7, i8, i9⟩ := block_numbers t
  blk_simp [iblk]
  unfold V V0
  simp only [List.flatten_cons, List.flatten_nil, List.append_nil]
  entry_read
  try simp only [StableHlo.TRef.toBuf, StableHlo.TRef.ofBuf, cast_eq]
  pointwise
  blk_ext [i2]

/-- The table's block is the table. -/
theorem table_block (i : Fin 95) (f : Fin 64) : iblk m c 3 t (ix2 i f) = m ((c.tc : Thread nD τ).loc main_arg3) (ix2 i f) := by
  have ⟨i0, i1, i2, i3, i4, i5, i6, i7, i8, i9⟩ := block_numbers t
  blk_ext [iblk, V, i3]

/-- The first layer's weights come whole. -/
theorem W1_block (i : Fin 67) (k : Fin 256) : iblk m c 4 t (ix2 i k) = m ((c.tc : Thread nD τ).loc main_arg4) (ix2 i k) := by
  have ⟨i0, i1, i2, i3, i4, i5, i6, i7, i8, i9⟩ := block_numbers t
  blk_ext [iblk, V, i4]

/-- The first layer's bias comes whole, as a row. -/
theorem b1_block (k : Fin 256) : iblk m c 5 t (ix2 0 k) = m ((c.tc : Thread nD τ).loc main_arg5) (ix1 k) := by
  have ⟨i0, i1, i2, i3, i4, i5, i6, i7, i8, i9⟩ := block_numbers t
  blk_simp [iblk]
  unfold V V0
  simp only [List.flatten_cons, List.flatten_nil, List.append_nil]
  entry_read
  try simp only [StableHlo.TRef.toBuf, StableHlo.TRef.ofBuf, cast_eq]
  pointwise
  blk_ext [i5]

/-- The second layer's weights come whole. -/
theorem W2_block (k l : Fin 256) : iblk m c 6 t (ix2 k l) = m ((c.tc : Thread nD τ).loc main_arg6) (ix2 k l) := by
  have ⟨i0, i1, i2, i3, i4, i5, i6, i7, i8, i9⟩ := block_numbers t
  blk_ext [iblk, V, i6]

/-- The second layer's bias comes whole, as a row. -/
theorem b2_block (l : Fin 256) : iblk m c 7 t (ix2 0 l) = m ((c.tc : Thread nD τ).loc main_arg7) (ix1 l) := by
  have ⟨i0, i1, i2, i3, i4, i5, i6, i7, i8, i9⟩ := block_numbers t
  blk_simp [iblk]
  unfold V V0
  simp only [List.flatten_cons, List.flatten_nil, List.append_nil]
  entry_read
  try simp only [StableHlo.TRef.toBuf, StableHlo.TRef.ofBuf, cast_eq]
  pointwise
  blk_ext [i7]

/-- Each of the third layer's sixteen columns is the one column of the argument. -/
theorem W3_block (l : Fin 256) (s : Fin 16) : iblk m c 8 t (ix2 l s) = m ((c.tc : Thread nD τ).loc main_arg8) (ix2 l 0) := by
  have ⟨i0, i1, i2, i3, i4, i5, i6, i7, i8, i9⟩ := block_numbers t
  blk_simp [iblk]
  unfold V V0
  simp only [List.flatten_cons, List.flatten_nil, List.append_nil]
  entry_read
  try simp only [StableHlo.TRef.toBuf, StableHlo.TRef.ofBuf, cast_eq]
  pointwise
  blk_ext [i8]

/-- The third layer's bias comes as a one-by-one array. -/
theorem b3_block : iblk m c 9 t (ix2 0 0) = m ((c.tc : Thread nD τ).loc main_arg9) (ix1 0) := by
  have ⟨i0, i1, i2, i3, i4, i5, i6, i7, i8, i9⟩ := block_numbers t
  blk_simp [iblk]
  unfold V V0
  simp only [List.flatten_cons, List.flatten_nil, List.append_nil]
  entry_read
  try simp only [StableHlo.TRef.toBuf, StableHlo.TRef.ofBuf, cast_eq]
  pointwise
  blk_ext [i9]

end Cert.Operands

end
-- ==== Proof.Block.lean ====
/-
  What the region's one output block holds after each of the two points, at the ideal values. A point reads its 8192 atoms in eight
  lots of 1024 and adds up the eight lots' contributions to each structure; the first point stores the sum, the second adds its own
  to it. The eight lots run the same operations; they come as functions of different shapes only because the body's text was cut at
  different places.
-/
module

public import proofs.«01_k».proof.Proof.Gen.KernelIdeal.Frame
public import Idealize.ShloMosaic.Lib.Pipeline.ValueKit
public import Idealize.ShloMosaic.Lib.Pipeline.ReadBack
public import Idealize.ShloMosaic.Lib.Claim
public import Idealize.ShloMosaic.Lib.Pointwise
public import proofs.«01_k».proof.Proof.Network
public import proofs.«01_k».proof.Proof.Slice
public import proofs.«01_k».proof.Proof.Operands

@[expose] public section

set_option maxRecDepth 16384

noncomputable section

namespace Cert.Block

open Idealize.ShloMosaic Idealize.ShloMosaic.TcCoe Idealize.SL.Sem
open Cert.KernelIdeal Cert.KernelIdeal.Gen

/-! ## The eight lots run the same operations -/

section
variable (ws : Vec Ideal S256x256 .bf16) (b2 : Vec Ideal S1x256 .f32) (b2v : FVec Ideal S256 .f32) (W2 : Vec Ideal S256x256 .f32)
  (w3 : Vec Ideal S256x16 .f32) (b3 : Vec Ideal S1x1 .f32) (b3s : Ideal .f32) (e : Vec Ideal S1x1x1024 .i32)
  (x : Vec Ideal S1024x3 .f32) (ind : Vec Ideal S1x1x1024 .i32)

/-- The first lot's operations are the third's. -/
theorem lot0 : k0_pay7 (k0_pay6 ws b2 W2 w3 b3 e x) ind = k0_pay10 ws (k0_pay4 b2) W2 w3 (k0_pay5 b3) e x ind := rfl

/-- The second lot's operations are the third's. -/
theorem lot1 : k0_pay9 (k0_pay8 ws b2v W2 w3 b3s e x ind) = k0_pay10 ws b2v W2 w3 b3s e x ind := rfl

/-- The fourth lot's operations are the third's. -/
theorem lot3 : k0_pay12 ws b2v W2 w3 b3s (k0_pay11 (F := Ideal) e) x ind = k0_pay10 ws b2v W2 w3 b3s e x ind := rfl

/-- The fifth lot's operations are the third's. -/
theorem lot4 : k0_pay14 ws b2v W2 w3 b3s (k0_pay13 e x) ind = k0_pay10 ws b2v W2 w3 b3s e x ind := rfl

/-- The sixth lot's operations are the third's. -/
theorem lot5 : k0_pay16 w3 b3s (k0_pay15 ws b2v W2 e x) (constant S1024x16 FTy.f32 0#32) ind
    = k0_pay10 ws b2v W2 w3 b3s e x ind := rfl

/-- The seventh lot's operations are the third's. -/
theorem lot6 : k0_pay19 (k0_pay17 ws b2v W2 w3 b3s e x) (iota Kind.tc S1024x16 32 [1] iota_S1024x16_d1_w32)
    (k0_pay18 (F := Ideal) ind) = k0_pay10 ws b2v W2 w3 b3s e x ind := rfl

/-- The eighth lot's operations are the third's. -/
theorem lot7 : k0_pay20 ws b2v W2 w3 b3s e x ind = k0_pay10 ws b2v W2 w3 b3s e x ind := rfl

end

/-! ## One lot of 1024 atoms -/

/-- A sum of products of finite numbers is finite. -/
theorem finite_dot {n : ℕ} (f g : Fin n → EReal) (hf : ∀ i, f i ≠ ⊤ ∧ f i ≠ ⊥) (hg : ∀ i, g i ≠ ⊤ ∧ g i ≠ ⊥) :
    ∑ i, f i * g i ≠ ⊤ ∧ ∑ i, f i * g i ≠ ⊥ := by
  have key : ∀ S : Finset (Fin n), ∃ r : ℝ, ∑ i ∈ S, f i * g i = (r : EReal) := by
    intro S
    induction S using Finset.induction_on with
    | empty => exact ⟨0, by simp⟩
    | insert a S ha ih =>
      obtain ⟨r, hr⟩ := ih
      refine ⟨(f a).toReal * (g a).toReal + r, ?_⟩
      rw [Finset.sum_insert ha, hr, EReal.coe_add, EReal.coe_mul, EReal.coe_toReal (hf a).1 (hf a).2,
        EReal.coe_toReal (hg a).1 (hg a).2]
  obtain ⟨r, hr⟩ := key Finset.univ
  rw [hr]
  exact ⟨EReal.coe_ne_top r, EReal.coe_ne_bot r⟩

variable (m : (ℓ : Loc nD τ sig) → Buf (Elt Ideal) ℓ) (c : Dev nD) (e : Fin 16384 → Fin 95) (s : Fin 16)

/-- What atom `n` contributes to structure `s`: its energy if it names the structure, and nothing otherwise. -/
def atom (n : Fin 16384) : EReal :=
  if m ((c.tc : Thread nD τ).loc main_arg2) (ix1 n) = BitVec.ofNat 32 s.val then
    Network.energy (m ((c.tc : Thread nD τ).loc main_arg0)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9)) e n
  else 0

/-- What lot `q` of the sixteen lots of 1024 atoms contributes to structure `s`. -/
def lot (q : Fin 16) : EReal := ∑ r : Fin 1024, atom m c e s ⟨q.val * 1024 + r.val, by omega⟩

/-- The first layer's table as a point builds it from its blocks. -/
def packed (t : Fin cfg0.N) : Vec Ideal S256x256 .bf16 :=
  k0_pay3 (iblk m c 3 t) (View.ld (iblk m c 4 t) (Rect.unit (s := S67x256) ![0, 0] ![64, 256] inb_S67x256_S64x256_0_0))
    (View.ld (iblk m c 4 t) (Rect.unit (s := S67x256) ![64, 0] ![3, 256] inb_S67x256_S3x256_64_0)) (iblk m c 5 t)

/-- The lot a point `t` reads at offset `o`, with the table that a point `t'` built, contributes what the mathematics says. -/
theorem lot_apply (he : ∀ n, m ((c.tc : Thread nD τ).loc main_arg1) (ix1 n) = BitVec.ofNat 32 (e n).val)
    (hemb : ∀ i j, m ((c.tc : Thread nD τ).loc main_arg3) (ix2 i j) ≠ (⊤ : EReal) ∧ m ((c.tc : Thread nD τ).loc main_arg3) (ix2 i j) ≠ (⊥ : EReal))
    (hW1 : ∀ (i : Fin 64) (k : Fin 256), m ((c.tc : Thread nD τ).loc main_arg4) (ix2 ⟨i.val, by omega⟩ k) ≠ (⊤ : EReal)
      ∧ m ((c.tc : Thread nD τ).loc main_arg4) (ix2 ⟨i.val, by omega⟩ k) ≠ (⊥ : EReal))
    (t t' : Fin cfg0.N) (q : Fin 16) (o : ℕ) (ho : 8192 * t.val + o = q.val * 1024) (ho' : o + 1024 ≤ 8192) (inb1) (inb0) :
    k0_pay10 (packed m c t') (k0_pay4 (iblk m c 7 t)) (iblk m c 6 t) (iblk m c 8 t) (k0_pay5 (iblk m c 9 t))
      (View.ld (iblk m c 1 t) (Rect.unit (s := S1x1x8192) ![0, 0, o] ![1, 1, 1024] inb1))
      (View.ld (iblk m c 0 t) (Rect.unit (s := S8192x3) ![o, 0] ![1024, 3] inb0))
      (View.ld (iblk m c 2 t) (Rect.unit (s := S1x1x8192) ![0, 0, o] ![1, 1, 1024] inb1)) (ix2 0 s)
    = lot m c e s q := by
  have species (r : Fin 1024) : View.ld (iblk m c 1 t) (Rect.unit (s := S1x1x8192) ![0, 0, o] ![1, 1, 1024] inb1) (ix3 0 0 r)
      = m ((c.tc : Thread nD τ).loc main_arg1) (ix1 ⟨q.val * 1024 + r.val, by omega⟩) := by
    refine (View.ld_unit_apply_of _ _ _ _ _ (ix3 0 0 ⟨o + r.val, by omega⟩) ?_).trans ((Operands.species_block m c t _).trans ?_)
    · intro a; fin_cases a <;> rfl
    · congr 2; exact Fin.ext (by simp only; omega)
  have structure_ (r : Fin 1024) : View.ld (iblk m c 2 t) (Rect.unit (s := S1x1x8192) ![0, 0, o] ![1, 1, 1024] inb1) (ix3 0 0 r)
      = m ((c.tc : Thread nD τ).loc main_arg2) (ix1 ⟨q.val * 1024 + r.val, by omega⟩) := by
    refine (View.ld_unit_apply_of _ _ _ _ _ (ix3 0 0 ⟨o + r.val, by omega⟩) ?_).trans ((Operands.structure_block m c t _).trans ?_)
    · intro a; fin_cases a <;> rfl
    · congr 2; exact Fin.ext (by simp only; omega)
  have coord (r : Fin 1024) (i : Fin 3) : View.ld (iblk m c 0 t) (Rect.unit (s := S8192x3) ![o, 0] ![1024, 3] inb0) (ix2 r i)
      = m ((c.tc : Thread nD τ).loc main_arg0) (ix2 ⟨q.val * 1024 + r.val, by omega⟩ i) := by
    refine (View.ld_unit_apply_of _ _ _ _ _ (ix2 ⟨o + r.val, by omega⟩ i) ?_).trans ((Operands.coord_block m c t _ _).trans ?_)
    · intro a; fin_cases a
      · rfl
      · exact (Nat.zero_add _).symm
    · congr 2; exact Fin.ext (by simp only; omega)
  have top (i : Fin 64) (k : Fin 256) :
      View.ld (iblk m c 4 t') (Rect.unit (s := S67x256) ![0, 0] ![64, 256] inb_S67x256_S64x256_0_0) (ix2 i k)
      = m ((c.tc : Thread nD τ).loc main_arg4) (ix2 ⟨i.val, by omega⟩ k) := by
    refine (View.ld_unit_apply_of _ _ _ _ _ (ix2 ⟨i.val, by omega⟩ k) ?_).trans (Operands.W1_block m c t' _ _)
    intro a; fin_cases a <;> exact (Nat.zero_add _).symm
  have low (i : Fin 3) (k : Fin 256) :
      View.ld (iblk m c 4 t') (Rect.unit (s := S67x256) ![64, 0] ![3, 256] inb_S67x256_S3x256_64_0) (ix2 i k)
      = m ((c.tc : Thread nD τ).loc main_arg4) (ix2 ⟨64 + i.val, by omega⟩ k) := by
    refine (View.ld_unit_apply_of _ _ _ _ _ (ix2 ⟨64 + i.val, by omega⟩ k) ?_).trans (Operands.W1_block m c t' _ _)
    intro a; fin_cases a
    · rfl
    · exact (Nat.zero_add _).symm
  have b2 (l : Fin 256) : k0_pay4 (iblk m c 7 t) (ix1 l) = m ((c.tc : Thread nD τ).loc main_arg7) (ix1 l) := by
    refine Eq.trans ?_ (Operands.b2_block m c t l)
    pointwise [k0_pay4]
  have b3 : k0_pay5 (iblk m c 9 t) = m ((c.tc : Thread nD τ).loc main_arg9) (ix1 0) := by
    refine Eq.trans ?_ (Operands.b3_block m c t)
    pointwise [k0_pay5]
  refine (Slice.slice_apply _ _ _ _ _ _ _ _ _ _ _ (fun r => e ⟨q.val * 1024 + r.val, by omega⟩)
    (fun r => (species r).trans (he _)) (fun i k => ?_) s).trans ?_
  · refine finite_dot _ _ (fun f => ?_) (fun f => ?_)
    · rw [Operands.table_block m c t' i f]; exact hemb i f
    · rw [top f k]; exact hW1 f k
  · unfold lot atom Network.energy
    simp only [structure_, coord, top, low, b2, b3, Operands.table_block, Operands.b1_block, Operands.W2_block, Operands.W3_block]

end Cert.Block

end
-- ==== Proof.Points.lean ====
/-
  The two points of the region one after the other: the first stores its eight lots' sum, the second adds its own eight to it, and
  the sixteen lots together are every atom, once.
-/
module

public import proofs.«01_k».proof.Proof.Block

@[expose] public section

set_option maxRecDepth 16384

noncomputable section

namespace Cert.Points

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The first point leaves the first layer's table in the scratch. -/
theorem table_first (t : Fin cfg0.N) (h0 : t.val % 2 = 0) (h1 : t.val % 2 = 0) (h2 : ¬t.val % 2 = 1) :
    (outsAt0 m c t.val t.isLt).2 = Block.packed m c t := by
  funext j
  rw [outsAt0_A m c t h0 h1 h2]
  frame_out
  rfl

/-- The embedding's rows of the first layer's weights are rows of the weights. -/
theorem row_lt (i : Fin 64) : i.val < 67 := by omega

variable (e : Fin 16384 → Fin 95) (s : Fin 16)
  (he : ∀ n, m ((c.tc : Thread nD τ).loc main_arg1) (ix1 n) = BitVec.ofNat 32 (e n).val)
  (hemb : ∀ i j, m ((c.tc : Thread nD τ).loc main_arg3) (ix2 i j) ≠ (⊤ : EReal)
    ∧ m ((c.tc : Thread nD τ).loc main_arg3) (ix2 i j) ≠ (⊥ : EReal))
  (hW1 : ∀ (i : Fin 64) (k : Fin 256), m ((c.tc : Thread nD τ).loc main_arg4) (ix2 ⟨i.val, row_lt i⟩ k) ≠ (⊤ : EReal)
    ∧ m ((c.tc : Thread nD τ).loc main_arg4) (ix2 ⟨i.val, row_lt i⟩ k) ≠ (⊥ : EReal))

include he hemb hW1

/-- What the first point stores: lots 0 to 7. -/
theorem first_point (t : Fin cfg0.N) (h0 : t.val % 2 = 0) (h1 : t.val % 2 = 0) (h2 : ¬t.val % 2 = 1) :
    (outsAt0 m c t.val t.isLt).1 (ix2 0 s)
    = Block.lot m c e s 0 + Block.lot m c e s 1 + Block.lot m c e s 2 + Block.lot m c e s 3 + Block.lot m c e s 4
      + Block.lot m c e s 5 + Block.lot m c e s 6 + Block.lot m c e s 7 := by
  have ht : t.val = 0 := by have := Operands.two_points t; omega
  have L := fun q o ho ho' => Block.lot_apply m c e s he hemb hW1 t t q o ho ho'
  rw [outsAt0_A m c t h0 h1 h2]
  frame_out
  pointwise [k0_pay1, k0_pay21]
  rw [Block.lot0, Block.lot1, Block.lot3, Block.lot4, Block.lot5, Block.lot6, Block.lot7]
  rw [← L 0 0 (by simp [ht]) (by omega) inb_S1x1x8192_S1x1x1024_0_0_0 inb_S8192x3_S1024x3_0_0,
    ← L 1 1024 (by simp [ht]) (by omega) inb_S1x1x8192_S1x1x1024_0_0_1024 inb_S8192x3_S1024x3_1024_0,
    ← L 2 2048 (by simp [ht]) (by omega) inb_S1x1x8192_S1x1x1024_0_0_2048 inb_S8192x3_S1024x3_2048_0,
    ← L 3 3072 (by simp [ht]) (by omega) inb_S1x1x8192_S1x1x1024_0_0_3072 inb_S8192x3_S1024x3_3072_0,
    ← L 4 4096 (by simp [ht]) (by omega) inb_S1x1x8192_S1x1x1024_0_0_4096 inb_S8192x3_S1024x3_4096_0,
    ← L 5 5120 (by simp [ht]) (by omega) inb_S1x1x8192_S1x1x1024_0_0_5120 inb_S8192x3_S1024x3_5120_0,
    ← L 6 6144 (by simp [ht]) (by omega) inb_S1x1x8192_S1x1x1024_0_0_6144 inb_S8192x3_S1024x3_6144_0,
    ← L 7 7168 (by simp [ht]) (by omega) inb_S1x1x8192_S1x1x1024_0_0_7168 inb_S8192x3_S1024x3_7168_0]
  rfl

/-- What the second point stores: lots 8 to 15 on top of what the first left. -/
theorem second_point (t : Fin cfg0.N) (h0 : ¬t.val % 2 = 0) (h1 : ¬t.val % 2 = 0) (h2 : t.val % 2 = 1) :
    (outsAt0 m c t.val t.isLt).1 (ix2 0 s)
    = (Block.lot m c e s 0 + Block.lot m c e s 1 + Block.lot m c e s 2 + Block.lot m c e s 3 + Block.lot m c e s 4
      + Block.lot m c e s 5 + Block.lot m c e s 6 + Block.lot m c e s 7)
    + (Block.lot m c e s 8 + Block.lot m c e s 9 + Block.lot m c e s 10 + Block.lot m c e s 11 + Block.lot m c e s 12
      + Block.lot m c e s 13 + Block.lot m c e s 14 + Block.lot m c e s 15) := by
  have ht : t.val = 1 := by have := Operands.two_points t; omega
  have htt : t.val - 1 < cfg0.N := by have := t.isLt; omega
  have L := fun q o ho ho' => Block.lot_apply m c e s he hemb hW1 t ⟨t.val - 1, htt⟩ q o ho ho'
  have T : (outsAt0 m c (t.val - 1) htt).2 = Block.packed m c ⟨t.val - 1, htt⟩ :=
    table_first m c ⟨t.val - 1, htt⟩ (by simp [ht]) (by simp [ht]) (by simp [ht])
  have A : (outsAt0 m c (t.val - 1) htt).1 (ix2 0 s) = _ :=
    first_point m c e s he hemb hW1 ⟨t.val - 1, htt⟩ (by simp [ht]) (by simp [ht]) (by simp [ht])
  rw [outsAt0_B m c t h0 h1 h2]
  frame_out
  simp only [read_unread_whole]
  rw [T]
  pointwise [k0_pay2, k0_pay1, k0_pay21]
  rw [A, Block.lot0, Block.lot1, Block.lot3, Block.lot4, Block.lot5, Block.lot6, Block.lot7]
  rw [← L 8 0 (by simp [ht]) (by omega) inb_S1x1x8192_S1x1x1024_0_0_0 inb_S8192x3_S1024x3_0_0,
    ← L 9 1024 (by simp [ht]) (by omega) inb_S1x1x8192_S1x1x1024_0_0_1024 inb_S8192x3_S1024x3_1024_0,
    ← L 10 2048 (by simp [ht]) (by omega) inb_S1x1x8192_S1x1x1024_0_0_2048 inb_S8192x3_S1024x3_2048_0,
    ← L 11 3072 (by simp [ht]) (by omega) inb_S1x1x8192_S1x1x1024_0_0_3072 inb_S8192x3_S1024x3_3072_0,
    ← L 12 4096 (by simp [ht]) (by omega) inb_S1x1x8192_S1x1x1024_0_0_4096 inb_S8192x3_S1024x3_4096_0,
    ← L 13 5120 (by simp [ht]) (by omega) inb_S1x1x8192_S1x1x1024_0_0_5120 inb_S8192x3_S1024x3_5120_0,
    ← L 14 6144 (by simp [ht]) (by omega) inb_S1x1x8192_S1x1x1024_0_0_6144 inb_S8192x3_S1024x3_6144_0,
    ← L 15 7168 (by simp [ht]) (by omega) inb_S1x1x8192_S1x1x1024_0_0_7168 inb_S8192x3_S1024x3_7168_0]
  rfl

omit he hemb hW1 in
/-- The sixteen lots are every atom, once. -/
theorem lots_total :
    (Block.lot m c e s 0 + Block.lot m c e s 1 + Block.lot m c e s 2 + Block.lot m c e s 3 + Block.lot m c e s 4
      + Block.lot m c e s 5 + Block.lot m c e s 6 + Block.lot m c e s 7)
    + (Block.lot m c e s 8 + Block.lot m c e s 9 + Block.lot m c e s 10 + Block.lot m c e s 11 + Block.lot m c e s 12
      + Block.lot m c e s 13 + Block.lot m c e s 14 + Block.lot m c e s 15)
    = Network.total (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) e s := by
  have h := Fin.sum_mul_add_fin 16 1024 (Block.atom m c e s) (by decide)
  refine Eq.trans ?_ h
  change _ = ∑ q : Fin 16, Block.lot m c e s q
  rw [Fin.sum_univ_add (a := 8) (b := 8), Fin.sum_univ_eight, Fin.sum_univ_eight]
  rfl

/-- What the second point stores is the total energy of each structure. -/
theorem last_point (t : Fin cfg0.N) (ht : t.val = 1) :
    (outsAt0 m c t.val t.isLt).1 (ix2 0 s)
    = Network.total (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) e s :=
  (second_point m c e s he hemb hW1 t (by omega) (by omega) (by omega)).trans (lots_total m c e s)

end Cert.Points

end
-- ==== Proof.Result.lean ====
/-
  What the kernel's program returns: the array the region leaves is what its last point stored, and the program's result is that
  array reshaped, the total energy of each structure.
-/
module

public import proofs.«01_k».proof.Proof.Points

@[expose] public section

set_option maxRecDepth 16384

noncomputable section

namespace Cert.Result

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- What the region's output array holds at the end is what its last point stored. -/
theorem array_eq (c : Dev nD) : (dats m 0 c).arrAt 10 cfg0.N = (outsAt0 m c t0_1.val t0_1.isLt).1 := by
  refine (dats m 0 c).arrAt_eq_of_after_last 10 t0_1 (by decide +kernel) _ fun j => ?_
  blk_simp
  rw [after0_10]

/-- The program's result is that array, read as a vector of sixteen. -/
theorem tail_eq (c : Dev nD) (s : Fin 16) :
    (Pipeline.afterTail₀ cfgs (dats m) 0 (V0 m) [hostOps1] c main_v0 : S16.Idx → EReal) (ix1 s)
      = (outsAt0 m c t0_1.val t0_1.isLt).1 (ix2 0 s) := by
  have h := (Pipeline.withArrays_arr spec0 (by decide) c (V0 m c) (fun w => (dats m 0 c).arrAt w cfg0.N) 10).trans (array_eq m c)
  unfold Pipeline.afterTail₀
  simp only [List.flatten_cons, List.flatten_nil, List.append_nil]
  after_results
  rw [← h]
  pointwise

/-- Every fair run of the kernel's program ends with the total energy of each structure in the result,
    when the species words are rows of the table and the embedding's factors are finite. -/
theorem value (e : Dev nD → Fin 16384 → Fin 95)
    (he : ∀ (c : Dev nD) n, m ((c.tc : Thread nD τ).loc main_arg1) (ix1 n) = BitVec.ofNat 32 (e c n).val)
    (hemb : ∀ (c : Dev nD) i j, m ((c.tc : Thread nD τ).loc main_arg3) (ix2 i j) ≠ (⊤ : EReal)
      ∧ m ((c.tc : Thread nD τ).loc main_arg3) (ix2 i j) ≠ (⊥ : EReal))
    (hW1 : ∀ (c : Dev nD) (i : Fin 64) (k : Fin 256), m ((c.tc : Thread nD τ).loc main_arg4) (ix2 ⟨i.val, Points.row_lt i⟩ k) ≠ (⊤ : EReal)
      ∧ m ((c.tc : Thread nD τ).loc main_arg4) (ix2 ⟨i.val, Points.row_lt i⟩ k) ≠ (⊥ : EReal)) :
    θ_run defs (onTc (τ := τ) (main (F := Ideal))) ⟨m, fun _ => 0, ρ⟩ fun r => ∀ c : Dev nD,
      r.2.mem ((c.tc : Thread nD τ).loc main_v0) = (fun s : S16.Idx => Network.total
        (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9))
        (e c) (s 0)) := by
  run_from Gen.run_main m ρ
  funext s
  idx_vars s
  exact (tail_eq m c _).trans (Points.last_point m c (e c) _ (he c) (hemb c) (hW1 c) t0_1 rfl)

/-- Every fair run of the kernel's program ends with the total energy of each structure in the result and the arguments unchanged,
    when the species words are rows of the table and the embedding's factors are finite. -/
theorem run (e : Dev nD → Fin 16384 → Fin 95)
    (he : ∀ (c : Dev nD) n, m ((c.tc : Thread nD τ).loc main_arg1) (ix1 n) = BitVec.ofNat 32 (e c n).val)
    (hemb : ∀ (c : Dev nD) i j, m ((c.tc : Thread nD τ).loc main_arg3) (ix2 i j) ≠ (⊤ : EReal)
      ∧ m ((c.tc : Thread nD τ).loc main_arg3) (ix2 i j) ≠ (⊥ : EReal))
    (hW1 : ∀ (c : Dev nD) (i : Fin 64) (k : Fin 256), m ((c.tc : Thread nD τ).loc main_arg4) (ix2 ⟨i.val, Points.row_lt i⟩ k) ≠ (⊤ : EReal)
      ∧ m ((c.tc : Thread nD τ).loc main_arg4) (ix2 ⟨i.val, Points.row_lt i⟩ k) ≠ (⊥ : EReal)) :
    θ_run defs (onTc (τ := τ) (main (F := Ideal))) ⟨m, fun _ => 0, ρ⟩ fun r => ∀ c : Dev nD,
      r.2.mem ((c.tc : Thread nD τ).loc main_v0) = (fun s : S16.Idx => Network.total
        (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9))
        (e c) (s 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  run_from value m ρ e he hemb hW1 & Gen.unchanged m ρ

end Cert.Result

end
-- ==== Proof.lean ====
/-
  The certificate's claims, put together: the frames of the three programs, the ideal program's relation to the kernel, and the
  equality of the kernel's result with the reference's. Both programs return the total energy of each structure, as
  `Proof/Network.lean` states it; each program's own modules prove that of it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_table_finite_species_listed
public import proofs.«01_k».proof.Proof.Gen.ReferenceIdeal.Run
public import proofs.«01_k».proof.Proof.Network
public import proofs.«01_k».proof.Proof.Reference
public import proofs.«01_k».proof.Proof.Precondition
public import proofs.«01_k».proof.Proof.Result
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, and leaves its arguments unchanged and every counter at zero. -/
theorem reference_frame : Cert.quiescent_ReferenceIdeal := by
  intro m g _
  exact (θ_run _ _ _).mono (fun r h => ⟨fun c => (h c).2, sem_eq_zero_of_no_sems rfl r.2⟩) (Cert.ReferenceIdeal.Value.run m g)

/-- From memories that agree on the arguments, with every species word a row of the table and the embedding's factors finite, the
    kernel and the reference end with the same total energies. -/
theorem same_totals : Cert.algebraic_KernelIdeal_ReferenceIdeal_pre_table_finite_species_listed := by
  intro m g m' g' hpre hagree
  have listed := fun c => (Precondition.facts (hpre c)).1
  let e : Dev Cert.KernelIdeal.nD → Fin 16384 → Fin 95 := fun c n => (listed c n).choose
  have he := fun c n => (listed c n).choose_spec
  refine ⟨fun c => fun s : Cert.KernelIdeal.S16.Idx => Network.total _ _ _ _ _ _ _ _ _ (e c) (s 0),
    Result.run m g e he (fun c => (Precondition.facts (hpre c)).2.1) (fun c => (Precondition.facts (hpre c)).2.2), ?_⟩
  refine (θ_run _ _ _).mono (fun r h c => ⟨(h c).1.trans ?_, (h c).2⟩)
    (Reference.run m' g' e fun c n => by rw [(hagree c).2.1]; exact he c n)
  obtain ⟨a0, a1, a2, a3, a4, a5, a6, a7, a8, a9⟩ := hagree c
  rw [a0, a2, a3, a4, a5, a6, a7, a8, a9]

/-- Every claim of the certificate. -/
theorem claim : Cert.Claim := ⟨Cert.Kernel.Gen.facts, Cert.KernelIdeal.Gen.facts, Cert.ReferenceIdeal.Gen.facts,
  Cert.Pre_table_finite_species_listed.Gen.facts, fun m g _ => Cert.Kernel.Gen.frame m g, fun m g _ => Cert.KernelIdeal.Gen.frame m g,
  fun m g _ => Cert.KernelIdeal.Gen.frame m g, reference_frame, fun m g _ => reference_frame m g trivial, trivial, same_totals⟩

end Cert.Proof

end
